-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
-- ==== Pre_finite_queries_and_keys.lean ====
abbrev S32x128 : Shape := ⟨2, ![32, 128]⟩
abbrev S100000x128 : Shape := ⟨2, ![100000, 128]⟩
abbrev S_ : Shape := ⟨0, ![]⟩

class Facts : Prop where
  bcast_S_S32x128 : S_.BroadcastsInDim S32x128 (![] : Fin 0 → Fin S32x128.rank)
  reducesTo_S32x128_S_d0_1 : S32x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_

variable [Facts]

def fn {F : FTy → Type} [FloatOps F] (main_arg0 : FVec F S32x128 .f32) (main_arg1 : FVec F S100000x128 .f32) (main_arg2 : FVec F S100000x128 .f32) : IVec S_ 1 :=
  let main_v0 : FVec F S32x128 .f32 := Host.absf main_arg0
  let main_cst : FVec F S_ .f32 := constant S_ .f32 0x7F800000#32
  let main_v1 : FVec F S32x128 .f32 := broadcastInDim S32x128 ![] bcast_S_S32x128 main_cst
  let main_v2 : IVec S32x128 1 := cmpf .olt main_v0 main_v1
  let main_c : IVec S_ 1 := constantI S_ 1 1#1
  let main_v3 : IVec S_ 1 := (fun x v => Host.reduce IntOp.andi x v reducesTo_S32x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  main_v8
-- ==== Kernel.lean ====
abbrev S32x128 : Shape := ⟨2, ![32, 128]⟩
abbrev S100000x128 : Shape := ⟨2, ![100000, 128]⟩
abbrev S10000x128 : Shape := ⟨2, ![10000, 128]⟩
abbrev S32x10000 : Shape := ⟨2, ![32, 10000]⟩
abbrev S32x1 : Shape := ⟨2, ![32, 1]⟩
abbrev S32 : Shape := ⟨1, ![32]⟩

abbrev nBuf : Space → Nat
  | .hbm => 4
  | .vmem => 9
  | .smem => 0
  | _ => 0

abbrev bufTy : (tb : Table) → Fin (tcTables nBuf tb) → BufTy
  | .hbm, ⟨0, _⟩ => ⟨S32x128, .f32⟩
  | .hbm, ⟨1, _⟩ => ⟨S100000x128, .f32⟩
  | .hbm, ⟨2, _⟩ => ⟨S100000x128, .f32⟩
  | .hbm, ⟨3, _⟩ => ⟨S32x128, .f32⟩
  | .local _ .vmem, ⟨0, _⟩ => ⟨S32x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v43 : BitVec 1 := Scalar.cmpi .eq arg0 c9_i32
  let v44 : BitVec 32 := Scalar.extui v43
  let c0_i32_22 : BitVec 32 := 0#32
  let v45 : BitVec 1 := Scalar.cmpi .ne v44 c0_i32_22
  v45

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "inv_sqrt_d" => some (((Real.sqrt 128)⁻¹ : ℝ) : EReal)
  | _ => none
-- ==== ReferenceIdeal.lean ====
abbrev S32x128 : Shape := ⟨2, ![32, 128]⟩
abbrev S100000x128 : Shape := ⟨2, ![100000, 128]⟩
abbrev S128x100000 : Shape := ⟨2, ![128, 100000]⟩
abbrev S32x100000 : Shape := ⟨2, ![32, 100000]⟩
abbrev S_ : Shape := ⟨0, ![]⟩
abbrev S32 : Shape := ⟨1, ![32]⟩
abbrev S32x1 : Shape := ⟨2, ![32, 1]⟩

abbrev nBuf : Space → Nat
  | .hbm => 24
  | .vmem => 0
  | .smem => 0
  | _ => 0

abbrev bufTy : (tb : Table) → Fin (tcTables nBuf tb) → BufTy
  | .hbm, ⟨0, _⟩ => ⟨S32x128, .f32⟩
  | .hbm, ⟨1, _⟩ => ⟨S100000x128, .f32⟩
  | .hbm, ⟨2, _⟩ => ⟨S100000x128, .f32⟩
  | .hbm, ⟨3, _⟩ => ⟨S128x100000, .f32⟩
  | .hbm, ⟨4, _⟩ => ⟨S32x100000, .f32⟩
  | .hbm, ⟨5, _⟩ => ⟨S_, .f32⟩
  | .hbm, ⟨6, _⟩ => ⟨S_, .f32⟩
  | .hbm, ⟨7, _⟩ => ⟨S32x100000, .f32⟩
  | .hbm, ⟨8, _⟩ => ⟨S32x100000, .f32⟩
  | .hbm, ⟨9, _⟩ => ⟨S_, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32x1, .f32⟩
  | .hbm, ⟨15, _⟩ => ⟨S32x100000, .f32⟩
  | .hbm, ⟨16, _⟩ => ⟨S32x100000, .f32⟩
  | .hbm, ⟨17, _⟩ => ⟨S32x100000, .f32⟩
  | .hbm, ⟨18, _⟩ => ⟨S_, .f32⟩
  | .hbm, ⟨19, _⟩ => ⟨S32, .f32⟩
  | .hbm, ⟨20, _⟩ => ⟨S32x1, .f32⟩
  | .hbm, ⟨21, _⟩ => ⟨S32x100000, .f32⟩
  | .hbm, ⟨22, _⟩ => ⟨S32x100000, .f32⟩
  | .hbm, ⟨23, _⟩ => ⟨S32x128, .f32⟩
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.Cases.lean ====
/-
  What ONE grid point leaves: the three carried arrays (running maximum, running denominator, running numerator) after
  the body at a first, a middle and the last point, and the result block at the last, as the body's stored values over
  the query block, the key and value blocks and what the point before left.
-/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.AttnRead

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ)

/-- What a point leaves in the running maximum, over the maximum it found. -/
def stepM (q : Vec F S32x128 .f32) (k : Vec F S10000x128 .f32) (mx : Vec F S32x128 .f32) : Vec F S32x128 .f32 :=
  k0_pay1 (k0_pay14 q k mx)

/-- What a point leaves in the running denominator. -/
def stepL (q : Vec F S32x128 .f32) (k : Vec F S10000x128 .f32) (mx l : Vec F S32x128 .f32) : Vec F S32x128 .f32 :=
  k0_pay2 (k0_pay12 q k mx l)

/-- What a point leaves in the running numerator. -/
def stepA (q : Vec F S32x128 .f32) (k v : Vec F S10000x128 .f32) (mx acc : Vec F S32x128 .f32) : Vec F S32x128 .f32 :=
  k0_pay13 q k mx v acc

/-- After the first point: one step over the starting values. -/
theorem first (c : Dev nD) (t : Fin cfg0.N) (h0 : t.val % 10 = 0) (h1 : ¬t.val % 10 = 9) :
    (outsAt0 m c t.val t.isLt).2 = (stepM (iblk m c 0 t) (iblk m c 1 t) k0_pay4,
      stepL (iblk m c 0 t) (iblk m c 1 t) k0_pay4 k0_pay5,
      stepA (iblk m c 0 t) (iblk m c 1 t) (iblk m c 2 t) k0_pay4 k0_pay6) := by
  rw [outsAt0_A m c t h0 h1]
  unfold stepM stepL stepA
  refine Prod.ext ?_ (Prod.ext ?_ ?_)
  · dsimp only; frame_out
  · dsimp only; frame_out
  · dsimp only; frame_out

/-- After a middle point: one step over what the point before left. -/
theorem middle (c : Dev nD) (t : Fin cfg0.N) (h0 : ¬t.val % 10 = 0) (h1 : ¬t.val % 10 = 9)
    (X M L A : Vec F S32x128 .f32)
    (hX : outsAt0 m c (t.val - 1) (Nat.lt_of_le_of_lt (Nat.sub_le _ _) t.isLt) = (X, M, L, A)) :
    (outsAt0 m c t.val t.isLt).2 = (stepM (iblk m c 0 t) (iblk m c 1 t) M,
      stepL (iblk m c 0 t) (iblk m c 1 t) M L,
      stepA (iblk m c 0 t) (iblk m c 1 t) (iblk m c 2 t) M A) := by
  rw [outsAt0_B m c t h0 h1, hX]
  unfold stepM stepL stepA
  refine Prod.ext ?_ (Prod.ext ?_ ?_)
  · dsimp only; frame_out; simp only [read_unread_whole]
  · dsimp only; frame_out; simp only [read_unread_whole]
  · dsimp only; frame_out; simp only [read_unread_whole]

/-- After the last point: the result block is the new numerator over the new denominator. -/
theorem last (c : Dev nD) (t : Fin cfg0.N) (h0 : ¬t.val % 10 = 0) (h1 : t.val % 10 = 9)
    (X M L A : Vec F S32x128 .f32)
    (hX : outsAt0 m c (t.val - 1) (Nat.lt_of_le_of_lt (Nat.sub_le _ _) t.isLt) = (X, M, L, A)) :
    (outsAt0 m c t.val t.isLt).1 = k0_pay3 (stepA (iblk m c 0 t) (iblk m c 1 t) (iblk m c 2 t) M A)
      (stepL (iblk m c 0 t) (iblk m c 1 t) M L) := by
  rw [outsAt0_C m c t h0 h1, hX]
  unfold stepL stepA
  dsimp only; frame_out; simp only [read_unread_whole]

end Cert.AttnRead

end
-- ==== Proof.Softmax.lean ====
/-
  The mathematics of a softmax-weighted sum read in pieces, over the extended reals. A row is a sequence of finite scores
  `x j` and of values `v j`, which may be infinite. `top`, `den` and `num` are the maximum, the denominator and the
  numerator over the first `n` entries; each theorem says how one grows by a further `b` entries, and the last ones say
  that the quotient is the softmax-weighted sum.
-/
module

public import Idealize.ShloMosaic.PureOps.Ideal

@[expose] public section

noncomputable section

namespace Cert.AttnRead

open Idealize.ShloMosaic

/-- Every score of the row is a real number. -/
def Finite (x : ℕ → EReal) : Prop := ∀ j, ∃ r : ℝ, x j = (r : EReal)

/-- The greatest of the first `n` scores; `⊥` for no scores. -/
def top (x : ℕ → EReal) (n : ℕ) : EReal := (Finset.range n).sup x

/-- The softmax denominator over the first `n` entries, relative to their greatest score. -/
def den (x : ℕ → EReal) (n : ℕ) : EReal := ∑ j ∈ Finset.range n, Ideal.exp (x j - top x n)

/-- The softmax numerator over the first `n` entries, relative to their greatest score. -/
def num (x v : ℕ → EReal) (n : ℕ) : EReal := ∑ j ∈ Finset.range n, Ideal.exp (x j - top x n) * v j

/-- A nonnegative real factor goes into a sum of extended reals. -/
theorem coe_mul_sum {a : ℝ} (ha : 0 ≤ a) {ι : Type} (s : Finset ι) (f : ι → EReal) :
    (a : EReal) * ∑ j ∈ s, f j = ∑ j ∈ s, (a : EReal) * f j := by
  classical
  induction s using Finset.induction_on with
  | empty => simp
  | insert i s hi ih =>
    rw [Finset.sum_insert hi, Finset.sum_insert hi,
      EReal.left_distrib_of_nonneg_of_ne_top (by exact_mod_cast ha) (EReal.coe_ne_top a), ih]

/-- The fold of `max` over a block of `b` scores that starts at entry `n` is the block's greatest score. -/
theorem top_add (x : ℕ → EReal) (n b : ℕ) :
    max (top x n) (Finset.univ.fold max ⊥ fun k : Fin b => x (n + k.val)) = top x (n + b) := by
  have hf : (Finset.univ.fold max ⊥ fun k : Fin b => x (n + k.val)) = Finset.univ.sup fun k : Fin b => x (n + k.val) := rfl
  rw [hf]
  refine le_antisymm (max_le ?_ ?_) ?_
  · exact Finset.sup_mono (Finset.range_mono (Nat.le_add_right n b))
  · refine Finset.sup_le fun k _ => Finset.le_sup (f := x) (Finset.mem_range.2 ?_)
    have := k.isLt
    omega
  · refine Finset.sup_le fun j hj => ?_
    by_cases h : j < n
    · exact le_max_of_le_left (Finset.le_sup (f := x) (Finset.mem_range.2 h))
    · have hj' := Finset.mem_range.1 hj
      have e : x j = (fun k : Fin b => x (n + k.val)) ⟨j - n, by omega⟩ := by
        show x j = x (n + (j - n))
        rw [show n + (j - n) = j by omega]
      rw [e]
      exact le_max_of_le_right (Finset.le_sup (f := fun k : Fin b => x (n + k.val)) (Finset.mem_univ _))

/-- The fold of `max` over a row whose entries are the first `n` scores is their greatest. -/
theorem fold_eq_top (x : ℕ → EReal) (n : ℕ) (f : Fin n → EReal) (hf : ∀ k, f k = x k.val) :
    Finset.univ.fold max ⊥ f = top x n := by
  have h := top_add x 0 n
  rw [Nat.zero_add, show top x 0 = ⊥ from rfl, max_eq_right bot_le] at h
  rw [← h]
  refine congrArg (fun g => Finset.univ.fold max ⊥ g) (funext fun k => ?_)
  rw [hf, Nat.zero_add]

/-- The sum over a row whose entries are the first `n` exponentials is the denominator. -/
theorem sum_eq_den (x : ℕ → EReal) (n : ℕ) (f : Fin n → EReal) (hf : ∀ k, f k = Ideal.exp (x k.val - top x n)) :
    ∑ k, f k = den x n := by
  rw [den, Finset.sum_range]
  exact Finset.sum_congr rfl fun k _ => hf k

/-- Over at least one finite score the greatest score is a real number. -/
theorem top_real {x : ℕ → EReal} (hx : Finite x) {n : ℕ} (hn : 0 < n) : ∃ r : ℝ, top x n = (r : EReal) := by
  obtain ⟨j, _, hj⟩ := Finset.exists_mem_eq_sup (Finset.range n) ⟨0, Finset.mem_range.2 hn⟩ x
  obtain ⟨r, hr⟩ := hx j
  exact ⟨r, by rw [top, hj, hr]⟩

/-- The exponential of a difference of real numbers is a real number. -/
theorem exp_sub_coe (a b : ℝ) : Ideal.exp ((a : EReal) - (b : EReal)) = (Real.exp (a - b) : EReal) := by
  rw [← EReal.coe_sub, Ideal.exp_coe]

/-- Moving the reference point of an exponential from `a` to `b` multiplies it by `exp (a - b)`. -/
theorem exp_rescale (a b r : ℝ) :
    Ideal.exp ((a : EReal) - (b : EReal)) * Ideal.exp ((r : EReal) - (a : EReal)) = Ideal.exp ((r : EReal) - (b : EReal)) := by
  rw [exp_sub_coe, exp_sub_coe, exp_sub_coe, ← EReal.coe_mul, ← Real.exp_add]
  congr 2
  ring

/-- The denominator over `b` further entries: the old one rescaled to the new maximum, plus the block's exponentials. -/
theorem den_add {x : ℕ → EReal} (hx : Finite x) (n b : ℕ) (hb : 0 < b) :
    Ideal.exp (top x n - top x (n + b)) * den x n + ∑ k : Fin b, Ideal.exp (x (n + k.val) - top x (n + b))
      = den x (n + b) := by
  have hs : den x (n + b) = ∑ j ∈ Finset.range n, Ideal.exp (x j - top x (n + b))
      + ∑ k : Fin b, Ideal.exp (x (n + k.val) - top x (n + b)) := by
    rw [den, Finset.sum_range_add, Finset.sum_range fun k => Ideal.exp (x (n + k) - top x (n + b))]
  rw [hs]
  congr 1
  rcases Nat.eq_zero_or_pos n with rfl | hn
  · simp [den]
  · obtain ⟨a, ha⟩ := top_real hx hn
    obtain ⟨c, hc⟩ := top_real hx (Nat.add_pos_left hn b)
    rw [den, ha, hc, exp_sub_coe, coe_mul_sum (Real.exp_pos _).le, ← exp_sub_coe]
    refine Finset.sum_congr rfl fun j _ => ?_
    obtain ⟨r, hr⟩ := hx j
    rw [hr, exp_rescale]

/-- The numerator over `b` further entries: the old one rescaled to the new maximum, plus the block's weighted values. -/
theorem num_add {x : ℕ → EReal} (hx : Finite x) (v : ℕ → EReal) (n b : ℕ) (hb : 0 < b) :
    num x v n * Ideal.exp (top x n - top x (n + b))
        + ∑ k : Fin b, Ideal.exp (x (n + k.val) - top x (n + b)) * v (n + k.val)
      = num x v (n + b) := by
  have hs : num x v (n + b) = ∑ j ∈ Finset.range n, Ideal.exp (x j - top x (n + b)) * v j
      + ∑ k : Fin b, Ideal.exp (x (n + k.val) - top x (n + b)) * v (n + k.val) := by
    rw [num, Finset.sum_range_add, Finset.sum_range fun k => Ideal.exp (x (n + k) - top x (n + b)) * v (n + k)]
  rw [hs]
  congr 1
  rcases Nat.eq_zero_or_pos n with rfl | hn
  · simp [num]
  · obtain ⟨a, ha⟩ := top_real hx hn
    obtain ⟨c, hc⟩ := top_real hx (Nat.add_pos_left hn b)
    rw [num, ha, hc, mul_comm, exp_sub_coe, coe_mul_sum (Real.exp_pos _).le, ← exp_sub_coe]
    refine Finset.sum_congr rfl fun j _ => ?_
    obtain ⟨r, hr⟩ := hx j
    rw [hr, ← mul_assoc, exp_rescale]

/-- Over at least one finite score the denominator is a positive real number. -/
theorem den_real {x : ℕ → EReal} (hx : Finite x) {n : ℕ} (hn : 0 < n) : ∃ r : ℝ, 0 < r ∧ den x n = (r : EReal) := by
  obtain ⟨a, ha⟩ := top_real hx hn
  choose f hf using hx
  refine ⟨∑ j ∈ Finset.range n, Real.exp (f j - a),
    Finset.sum_pos (fun j _ => Real.exp_pos _) ⟨0, Finset.mem_range.2 hn⟩, ?_⟩
  have hc : ∀ s : Finset ℕ, ((∑ j ∈ s, Real.exp (f j - a) : ℝ) : EReal) = ∑ j ∈ s, (Real.exp (f j - a) : EReal) := by
    intro s
    classical
    induction s using Finset.induction_on with
    | empty => simp
    | insert i s hi ih => rw [Finset.sum_insert hi, Finset.sum_insert hi, EReal.coe_add, ih]
  rw [den, ha, hc]
  exact Finset.sum_congr rfl fun j _ => by rw [hf, exp_sub_coe]

/-- The numerator over the denominator is the sum of the values, each weighted by its own softmax weight. -/
theorem num_div_den {x : ℕ → EReal} (hx : Finite x) (v : ℕ → EReal) {n : ℕ} (hn : 0 < n) :
    Ideal.div (num x v n) (den x n)
      = ∑ j ∈ Finset.range n, Ideal.div (Ideal.exp (x j - top x n)) (den x n) * v j := by
  obtain ⟨d, hd, e⟩ := den_real hx hn
  rw [e, Ideal.div_coe hd.ne', num, mul_comm, coe_mul_sum (one_div_pos.2 hd).le]
  refine Finset.sum_congr rfl fun j _ => ?_
  rw [Ideal.div_coe hd.ne', ← mul_assoc, mul_comm ((1 / d : ℝ) : EReal)]

/-- A row's values summed under their own softmax weights are the numerator over the denominator. -/
theorem sum_eq_num_div_den {x : ℕ → EReal} (hx : Finite x) (v : ℕ → EReal) {n : ℕ} (hn : 0 < n) (f : Fin n → EReal)
    (hf : ∀ k, f k = Ideal.div (Ideal.exp (x k.val - top x n)) (den x n) * v k.val) :
    ∑ k, f k = Ideal.div (num x v n) (den x n) := by
  rw [num_div_den hx v hn, Finset.sum_range]
  exact Finset.sum_congr rfl fun k _ => hf k

end Cert.AttnRead

end
-- ==== Proof.Rows.lean ====
/-
  One row of the attention read, over the ideal arrays: the scores of a query against every key, a column of the values,
  and what one block of 10,000 keys does to the running maximum, denominator and numerator of the row.
-/
module

public import proofs.«01_k».proof.Proof.Cases
public import proofs.«01_k».proof.Proof.Softmax
public import Idealize.ShloMosaic.Lib.Pointwise

@[expose] public section

set_option maxRecDepth 16384

noncomputable section

namespace Cert.AttnRead

open Cert.KernelIdeal Cert.KernelIdeal.Gen Idealize.ShloMosaic

/-- The scores of query `r`: its inner product with key `j`, times one over the square root of 128. -/
def scoreRow (q : S32x128.Idx → EReal) (k : S100000x128.Idx → EReal) (r : Fin 32) : ℕ → EReal := fun j =>
  if h : j < 100000 then (∑ e : Fin 128, q (ix2 r e) * k (ix2 ⟨j, h⟩ e)) * (((Real.sqrt 128)⁻¹ : ℝ) : EReal) else 0

/-- Column `d` of the values. -/
def valueRow (v : S100000x128.Idx → EReal) (d : Fin 128) : ℕ → EReal := fun j =>
  if h : j < 100000 then v (ix2 ⟨j, h⟩ d) else 0

/-- A finite sum of products of real numbers is a real number. -/
theorem sum_mul_real {ι : Type} (s : Finset ι) (f g : ι → EReal) (hf : ∀ i, ∃ r : ℝ, f i = (r : EReal))
    (hg : ∀ i, ∃ r : ℝ, g i = (r : EReal)) : ∃ r : ℝ, ∑ i ∈ s, f i * g i = (r : EReal) := by
  classical
  induction s using Finset.induction_on with
  | empty => exact ⟨0, by simp⟩
  | insert i s hi ih =>
    obtain ⟨a, ha⟩ := ih
    obtain ⟨b, hb⟩ := hf i
    obtain ⟨c, hc⟩ := hg i
    exact ⟨b * c + a, by rw [Finset.sum_insert hi, ha, hb, hc, EReal.coe_add, EReal.coe_mul]⟩

/-- Finite queries and keys have finite scores. -/
theorem scoreRow_finite {q : S32x128.Idx → EReal} {k : S100000x128.Idx → EReal} (hq : ∀ i, ∃ r : ℝ, q i = (r : EReal))
    (hk : ∀ i, ∃ r : ℝ, k i = (r : EReal)) (r : Fin 32) : Finite (scoreRow q k r) := by
  intro j
  unfold scoreRow
  by_cases h : j < 100000
  · obtain ⟨a, ha⟩ := sum_mul_real Finset.univ (fun e : Fin 128 => q (ix2 r e)) (fun e => k (ix2 ⟨j, h⟩ e))
      (fun e => hq _) (fun e => hk _)
    exact ⟨a * (Real.sqrt 128)⁻¹, by rw [dif_pos h, ha, EReal.coe_mul]⟩
  · exact ⟨0, by rw [dif_neg h, EReal.coe_zero]⟩

/-- The word of negative infinity denotes `⊥`. -/
theorem ofBits_neg_inf : Ideal.ofBits .f32 0xFF800000#32 = ⊥ := by
  simp [Ideal.ofBits, Ideal.ieee]

/-- The named constant is one over the square root of 128. -/
theorem named_scale : (Named.named (F := Ideal) κ "inv_sqrt_d" 0x3DB504F3#32 : Ideal .f32) = (((Real.sqrt 128)⁻¹ : ℝ) : EReal) :=
  rfl

section Block

variable (q : FVec Ideal S32x128 .f32) (k v : S100000x128.Idx → EReal) (kb vb : FVec Ideal S10000x128 .f32) (n : ℕ) (hn : n < 10)
variable (hk : ∀ (x : Fin 10000) (e : Fin 128) (h : 10000 * n + x.val < 100000), kb (ix2 x e) = k (ix2 ⟨10000 * n + x.val, h⟩ e))
variable (hv : ∀ (x : Fin 10000) (e : Fin 128) (h : 10000 * n + x.val < 100000), vb (ix2 x e) = v (ix2 ⟨10000 * n + x.val, h⟩ e))
variable (r : Fin 32)

include hn hk in
/-- The scores of a block are the row's scores at the block's keys. -/
theorem block_scores (x : Fin 10000) : k0_pay7 (F := Ideal) q kb (ix2 r x) = scoreRow q k r (10000 * n + x.val) := by
  have hx : 10000 * n + x.val < 100000 := by have := x.isLt; omega
  pointwise [k0_pay7]
  rw [scoreRow, dif_pos hx, named_scale]
  simp only [hk _ _ hx]

include hn hk in
/-- The new maximum of a block: the row's greatest score so far. -/
theorem block_top (mx : FVec Ideal S32x128 .f32) (hm : mx (ix2 r 0) = top (scoreRow q k r) (10000 * n)) :
    k0_pay9 (F := Ideal) q kb mx (ix2 r 0) = top (scoreRow q k r) (10000 * n + 10000) := by
  pointwise [k0_pay9, k0_pay8]
  rw [hm, ofBits_neg_inf, ← top_add]
  congr 2
  funext x
  exact block_scores q k kb n hn hk r x

include hn hk in
/-- The running maximum after a block. -/
theorem step_top (mx : FVec Ideal S32x128 .f32) (hm : mx (ix2 r 0) = top (scoreRow q k r) (10000 * n)) (d : Fin 128) :
    stepM (F := Ideal) q kb mx (ix2 r d) = top (scoreRow q k r) (10000 * n + 10000) := by
  rw [← block_top q k kb n hn hk r mx hm]
  unfold stepM
  pointwise [k0_pay1, k0_pay14]

include hn hk in
/-- The running denominator after a block. -/
theorem step_den (hx : Finite (scoreRow q k r)) (mx l : FVec Ideal S32x128 .f32) (hm : mx (ix2 r 0) = top (scoreRow q k r) (10000 * n))
    (hl : l (ix2 r 0) = den (scoreRow q k r) (10000 * n)) (d : Fin 128) :
    stepL (F := Ideal) q kb mx l (ix2 r d) = den (scoreRow q k r) (10000 * n + 10000) := by
  unfold stepL
  pointwise [k0_pay2, k0_pay12, k0_pay10, k0_pay11, k0_pay8]
  rw [block_top q k kb n hn hk r mx hm, hm, hl, ← den_add hx _ _ (by decide : 0 < 10000)]
  simp only [block_scores q k kb n hn hk r]

include hn hk hv in
/-- The running numerator after a block. -/
theorem step_num (hx : Finite (scoreRow q k r)) (mx a : FVec Ideal S32x128 .f32) (hm : mx (ix2 r 0) = top (scoreRow q k r) (10000 * n))
    (d : Fin 128) (ha : a (ix2 r d) = num (scoreRow q k r) (valueRow v d) (10000 * n)) :
    stepA (F := Ideal) q kb vb mx a (ix2 r d) = num (scoreRow q k r) (valueRow v d) (10000 * n + 10000) := by
  have hv' : ∀ x : Fin 10000, vb (ix2 x d) = valueRow v d (10000 * n + x.val) := fun x => by
    have hx : 10000 * n + x.val < 100000 := by have := x.isLt; omega
    rw [hv _ _ hx, valueRow, dif_pos hx]
  unfold stepA
  pointwise [k0_pay13, k0_pay10, k0_pay11, k0_pay8]
  rw [block_top q k kb n hn hk r mx hm, hm, ha, ← num_add hx _ _ _ (by decide : 0 < 10000)]
  simp only [block_scores q k kb n hn hk r, hv']

end Block

end Cert.AttnRead

end
-- ==== Proof.Array.lean ====
/-
  What the result array holds after the kernel's run, over finite queries and keys: at row `r`, column `d`, the softmax
  numerator over the softmax denominator of all 100,000 keys.
-/
module

public import proofs.«01_k».proof.Proof.Rows

@[expose] public section

set_option maxRecDepth 16384

noncomputable section

namespace Cert.AttnRead

open Cert.KernelIdeal Cert.KernelIdeal.Gen Idealize.ShloMosaic Idealize.ShloMosaic.TcCoe Idealize.SL.Sem

section Blocks

variable {F : FTy → Type} [FloatOps F] [Named F]
variable (m : (ℓ : Loc nD τ sig) → Buf (Elt F) ℓ) (c : Dev nD)

/-- The query window stays at the one block of its array. -/
theorem index_query : ∀ t : Fin cfg0.N, (cfg0.win 0).index t = ![0, 0] := by decide +kernel
/-- The key window is at block `t` at point `t`. -/
theorem index_keys : ∀ t : Fin cfg0.N, (cfg0.win 1).index t = ![t.val, 0] := by decide +kernel
/-- The value window is at block `t` at point `t`. -/
theorem index_values : ∀ t : Fin cfg0.N, (cfg0.win 2).index t = ![t.val, 0] := by decide +kernel

/-- The query block is the whole query array. -/
theorem block_query (t : Fin cfg0.N) : (iblk m c 0 t : Vec F S32x128 .f32) = m ((c : Thread nD τ).loc main_arg0) := by
  funext y
  idx_vars y
  blk_point [iblk, V, index_query t]

/-- Row `x` of the key block at point `t` is key `10000 t + x`. -/
theorem block_keys (t : Fin cfg0.N) (x : Fin 10000) (e : Fin 128) (h : 10000 * t.val + x.val < 100000) :
    (iblk m c 1 t : Vec F S10000x128 .f32) (ix2 x e) = m ((c : Thread nD τ).loc main_arg1) (ix2 ⟨10000 * t.val + x.val, h⟩ e) := by
  blk_point [iblk, V, index_keys t]

/-- Row `x` of the value block at point `t` is value `10000 t + x`. -/
theorem block_values (t : Fin cfg0.N) (x : Fin 10000) (e : Fin 128) (h : 10000 * t.val + x.val < 100000) :
    (iblk m c 2 t : Vec F S10000x128 .f32) (ix2 x e) = m ((c : Thread nD τ).loc main_arg2) (ix2 ⟨10000 * t.val + x.val, h⟩ e) := by
  blk_point [iblk, V, index_values t]

end Blocks

variable (m : (ℓ : Loc nD τ sig) → Buf (Elt Ideal) ℓ) (c : Dev nD)

/-- The scores of query `r` of the launched arrays. -/
abbrev scores (r : Fin 32) : ℕ → EReal :=
  scoreRow (m ((c : Thread nD τ).loc main_arg0)) (m ((c : Thread nD τ).loc main_arg1)) r

/-- Column `d` of the launched values. -/
abbrev vals (d : Fin 128) : ℕ → EReal := valueRow (m ((c : Thread nD τ).loc main_arg2)) d

/-- The three carried arrays hold every row's maximum, denominator and numerator over the first `n` keys. -/
structure Holds (n : ℕ) (S : Vec Ideal S32x128 .f32 × Vec Ideal S32x128 .f32 × Vec Ideal S32x128 .f32) : Prop where
  top : ∀ (r : Fin 32) (d : Fin 128), S.1 (ix2 r d) = AttnRead.top (scores m c r) n
  den : ∀ (r : Fin 32) (d : Fin 128), S.2.1 (ix2 r d) = AttnRead.den (scores m c r) n
  num : ∀ (r : Fin 32) (d : Fin 128), S.2.2 (ix2 r d) = AttnRead.num (scores m c r) (vals m c d) n

/-- The starting values are the maximum, denominator and numerator of no keys. -/
theorem holds_zero : Holds m c 0 (k0_pay4 (F := Ideal), k0_pay5 (F := Ideal), k0_pay6 (F := Ideal)) where
  top r d := by
    pointwise [k0_pay4]
    rw [ofBits_neg_inf]
    simp [AttnRead.top]
  den r d := by
    pointwise [k0_pay5]
    simp [AttnRead.den]
  num r d := by
    pointwise [k0_pay6]
    simp [AttnRead.num]

/-- One point's step carries the statement over its block of 10,000 keys. -/
theorem holds_step (hx : ∀ r, Finite (scores m c r)) (t : Fin cfg0.N) {M L A : Vec Ideal S32x128 .f32}
    (h : Holds m c (10000 * t.val) (M, L, A)) :
    Holds m c (10000 * t.val + 10000) (stepM (iblk m c 0 t) (iblk m c 1 t) M, stepL (iblk m c 0 t) (iblk m c 1 t) M L,
      stepA (iblk m c 0 t) (iblk m c 1 t) (iblk m c 2 t) M A) := by
  have hN : t.val < 10 := lt_of_lt_of_eq t.isLt N_0
  rw [block_query m c t]
  exact {
    top := fun r d => step_top _ _ _ t.val hN (fun x e => block_keys m c t x e) r M (h.top r 0) d
    den := fun r d => step_den _ _ _ t.val hN (fun x e => block_keys m c t x e) r (hx r) M L (h.top r 0) (h.den r 0) d
    num := fun r d => step_num _ _ _ _ _ t.val hN (fun x e => block_keys m c t x e) (fun x e => block_values m c t x e) r
      (hx r) M A (h.top r 0) d (h.num r d) }

/-- After point `n`, before the last, the carried arrays hold the rows' state over the first `n + 1` blocks. -/
theorem holds_after (hx : ∀ r, Finite (scores m c r)) : ∀ (n : ℕ) (h : n < cfg0.N), n < 9 →
    Holds m c (10000 * n + 10000) (outsAt0 m c n h).2
  | 0, h, _ => by
    have e := first m c ⟨0, h⟩ (Nat.zero_mod 10) (by rw [Nat.zero_mod]; decide)
    dsimp only at e
    rw [e]
    exact holds_step m c hx ⟨0, h⟩ (holds_zero m c)
  | n + 1, h, hn => by
    have ih := holds_after hx n (Nat.lt_of_succ_lt h) (by omega)
    have e := middle m c ⟨n + 1, h⟩ (by dsimp only; omega) (by dsimp only; omega) (outsAt0 m c n (Nat.lt_of_succ_lt h)).1
      (outsAt0 m c n (Nat.lt_of_succ_lt h)).2.1 (outsAt0 m c n (Nat.lt_of_succ_lt h)).2.2.1
      (outsAt0 m c n (Nat.lt_of_succ_lt h)).2.2.2 rfl
    dsimp only at e
    rw [e]
    exact holds_step m c hx ⟨n + 1, h⟩ ih

/-- The last point: the result block is numerator over denominator of all 100,000 keys. -/
theorem holds_last (hx : ∀ r, Finite (scores m c r)) (n : ℕ) (h : n + 1 < cfg0.N) (hn : n = 8) (r : Fin 32) (d : Fin 128) :
    (outsAt0 m c (n + 1) h).1 (ix2 r d)
      = Ideal.div (num (scores m c r) (vals m c d) 100000) (den (scores m c r) 100000) := by
  have hp := holds_after m c hx n (Nat.lt_of_succ_lt h) (by omega)
  have e := last m c ⟨n + 1, h⟩ (by dsimp only; omega) (by dsimp only; omega) (outsAt0 m c n (Nat.lt_of_succ_lt h)).1
    (outsAt0 m c n (Nat.lt_of_succ_lt h)).2.1 (outsAt0 m c n (Nat.lt_of_succ_lt h)).2.2.1
    (outsAt0 m c n (Nat.lt_of_succ_lt h)).2.2.2 rfl
  have hs := holds_step m c hx ⟨n + 1, h⟩ hp
  have hK : 10000 * (⟨n + 1, h⟩ : Fin cfg0.N).val + 10000 = 100000 := by dsimp only; omega
  rw [hK] at hs
  dsimp only at e
  rw [e, ← hs.num r d, ← hs.den r d]
  rfl

/-- THE RESULT ARRAY of the kernel: numerator over denominator of all 100,000 keys. -/
theorem result_eq (hx : ∀ r, Finite (scores m c r)) (r : Fin 32) (d : Fin 128) :
    Value.G3 m c (ix2 r d) = Ideal.div (num (scores m c r) (vals m c d) 100000) (den (scores m c r) 100000) := by
  have h9 : 8 + 1 < cfg0.N := lt_of_lt_of_eq (by decide) N_0.symm
  rw [← holds_last m c hx 8 h9 rfl r d, Value.G3_last, Value.outsAt0_sweep m c (8 + 1) h9]

end Cert.AttnRead

end
-- ==== Proof.Reference.lean ====
/-
  What the reference computes, over finite queries and keys: at row `r`, column `d`, the sum over all 100,000 keys of the
  value weighted by its softmax weight. The reference divides the scores by the square root of 128, where the kernel
  multiplies by its reciprocal.
-/
module

public import proofs.«01_k».proof.Proof.Gen.ReferenceIdeal.Run
public import proofs.«01_k».proof.Proof.Rows

@[expose] public section

set_option maxRecDepth 16384

noncomputable section

namespace Cert.AttnRead.Host

open Cert.ReferenceIdeal Cert.ReferenceIdeal.Gen Idealize.ShloMosaic

variable (q : FVec Ideal S32x128 .f32) (k v : FVec Ideal S100000x128 .f32)

/-- The scores: the product of the queries and the transposed keys over the square root of 128. -/
def scoresH : FVec Ideal S32x100000 .f32 :=
  Host.divf (Host.dotGeneral (φ₁ := .f32) (φ₂ := .f32) dot_S32x128_S128x100000_S32x100000_1_0_0_1_n_n none q
      (transpose (α := Ideal .f32) S128x100000 [1, 0] k transposes_S100000x128_S128x100000_1_0))
    (broadcastInDim S32x100000 ![] bcast_S_S32x100000 (Host.sqrt (constant (F := Ideal) S_ .f32 0x43000000#32)))

/-- Each row's greatest score. -/
def topH : FVec Ideal S32 .f32 :=
  maximumf (broadcastInDim S32 ![] bcast_S_S32 (constant (F := Ideal) S_ .f32 0xFF800000#32))
    (Host.reduce FloatOps.maximumf (scoresH q k) (constant S_ .f32 0xFF800000#32) reducesTo_S32x100000_S32_d1 h_S_)

/-- The exponentials of the scores relative to their row's greatest. -/
def expsH : FVec Ideal S32x100000 .f32 :=
  Host.exp (subf (scoresH q k) (broadcastInDim S32x100000 ![0, 1] bcast_S32x1_S32x100000_0_1
    (broadcastInDim S32x1 ![0] bcast_S32_S32x1_0 (topH q k))))

/-- Each row's sum of exponentials. -/
def denH : FVec Ideal S32 .f32 :=
  Host.reduceAdd (expsH q k) (constant S_ .f32 0x00000000#32) reducesTo_S32x100000_S32_d1 h_S_

/-- The reference's result. -/
def resultH : FVec Ideal S32x128 .f32 :=
  Host.dotGeneral (φ₁ := .f32) (φ₂ := .f32) dot_S32x100000_S100000x128_S32x128_1_0_0_1_n_n none
    (Host.divf (expsH q k) (broadcastInDim S32x100000 ![0, 1] bcast_S32x1_S32x100000_0_1
      (broadcastInDim S32x1 ![0] bcast_S32_S32x1_0 (denH q k)))) v

/-- The word the reference takes the root of denotes 128. -/
theorem ofBits_128 : Ideal.ofBits .f32 0x43000000#32 = ((128 : ℝ) : EReal) := by
  simp [Ideal.ofBits, Ideal.ieee, -EReal.coe_mul]
  norm_num

/-- Dividing by the square root of 128 is multiplying by its reciprocal. -/
theorem div_sqrt (x : EReal) :
    Ideal.div x (Ideal.sqrt (Ideal.ofBits .f32 0x43000000#32)) = x * (((Real.sqrt 128)⁻¹ : ℝ) : EReal) := by
  have h : Real.sqrt 128 ≠ 0 := (Real.sqrt_pos.2 (by norm_num)).ne'
  rw [ofBits_128, Ideal.sqrt_coe, if_neg (by norm_num), Ideal.div_coe h, one_div]

/-- The reference's scores are the row's scores. -/
theorem scoresH_eq (r : Fin 32) (j : Fin 100000) : scoresH q k (ix2 r j) = scoreRow q k r j.val := by
  unfold scoresH
  pointwise
  rw [div_sqrt, scoreRow, dif_pos j.isLt]

/-- A row maximum of any array, starting from minus infinity, is the fold of `max` over the row's entries. -/
theorem row_max {a b : ℕ} (x : FVec Ideal ⟨2, ![a, b]⟩ .f32) (hb : S_.BroadcastsInDim ⟨1, ![a]⟩ ![])
    (h : (⟨2, ![a, b]⟩ : Shape).ReducesTo [1] ⟨1, ![a]⟩) (r : Fin a) :
    maximumf (broadcastInDim ⟨1, ![a]⟩ ![] hb (constant (F := Ideal) S_ .f32 0xFF800000#32))
      (Host.reduce FloatOps.maximumf x (constant S_ .f32 0xFF800000#32) h h_S_) (ix1 r)
    = Finset.univ.fold max ⊥ fun j : Fin b => x (ix2 r j) := by
  pointwise
  rw [ofBits_neg_inf, max_eq_right bot_le]

/-- The reference's row maximum is the greatest of all the row's scores. -/
theorem topH_eq (r : Fin 32) : topH q k (ix1 r) = top (scoreRow q k r) 100000 :=
  (row_max (scoresH q k) bcast_S_S32 reducesTo_S32x100000_S32_d1 r).trans
    (fold_eq_top _ _ _ fun j => scoresH_eq q k r j)

/-- The reference's exponentials are those relative to the row's greatest score. -/
theorem expsH_eq (r : Fin 32) (j : Fin 100000) :
    expsH q k (ix2 r j) = Ideal.exp (scoreRow q k r j.val - top (scoreRow q k r) 100000) := by
  unfold expsH
  pointwise
  rw [scoresH_eq, topH_eq]

/-- The reference's row sum is the softmax denominator. -/
theorem denH_eq (r : Fin 32) : denH q k (ix1 r) = den (scoreRow q k r) 100000 := by
  unfold denH
  pointwise
  exact sum_eq_den _ _ _ fun j => expsH_eq q k r j

/-- THE REFERENCE'S RESULT: numerator over denominator of all 100,000 keys. -/
theorem resultH_eq (hx : ∀ r, Finite (scoreRow q k r)) (r : Fin 32) (d : Fin 128) :
    resultH q k v (ix2 r d)
      = Ideal.div (num (scoreRow q k r) (valueRow v d) 100000) (den (scoreRow q k r) 100000) := by
  unfold resultH
  pointwise
  refine sum_eq_num_div_den (hx r) _ (Nat.succ_pos 99999) _ fun j => ?_
  rw [expsH_eq, denH_eq, valueRow, dif_pos j.isLt]

end Cert.AttnRead.Host

end
-- ==== Proof.Precondition.lean ====
/-
  The precondition read back: where `finite_queries_and_keys` holds of the arrays, every query and every key is a real
  number.
-/
module

public import proofs.«01_k».proof.Pre_finite_queries_and_keys
public import Idealize.ShloMosaic.Lib.ReduceAll
public import Idealize.ShloMosaic.Lib.Pointwise

@[expose] public section

set_option maxRecDepth 16384

noncomputable section

namespace Cert.AttnRead

open Cert.Pre_finite_queries_and_keys Idealize.ShloMosaic

/-- The word of infinity denotes `⊤`. -/
theorem ofBits_inf : Ideal.ofBits .f32 0x7F800000#32 = ⊤ := by
  simp [Ideal.ofBits, Ideal.ieee]

/-- An extended real whose magnitude compares below infinity is a real number. -/
theorem real_of_abs_lt {x : EReal} (h : Ideal.cmp .olt (max x (-x)) ⊤ = 1#1) : ∃ r : ℝ, x = (r : EReal) := by
  have h' : max x (-x) < ⊤ := by
    by_contra hc
    rw [Ideal.cmp, decide_eq_false hc] at h
    exact absurd h (by decide)
  induction x with
  | bot => simp at h'
  | coe r => exact ⟨r, rfl⟩
  | top => simp at h'

instance : Subsingleton S_.Idx := ⟨fun a b => funext fun i => i.elim0⟩

/-- Where the precondition holds, every query and every key is a real number. -/
theorem real_of_pre [Facts] (q : FVec Ideal S32x128 .f32) (k v : FVec Ideal S100000x128 .f32)
    (h : fn (F := Ideal) q k v = fun _ => 1#1) :
    (∀ i, ∃ r : ℝ, q i = (r : EReal)) ∧ ∀ i, ∃ r : ℝ, k i = (r : EReal) := by
  have h0 := congrFun h ix0
  obtain ⟨hq, hk⟩ := IntOp.andi_eq_one.1 h0
  refine ⟨fun i => ?_, fun i => ?_⟩
  · have e := Host.reduce_andi_all _ _ _ _ _ hq i
    refine real_of_abs_lt ?_
    rw [← ofBits_inf]
    exact e
  · have e := Host.reduce_andi_all _ _ _ _ _ hk i
    refine real_of_abs_lt ?_
    rw [← ofBits_inf]
    exact e

end Cert.AttnRead

end
-- ==== Proof.Equal.lean ====
/-
  The equation of the two programs: over finite queries and keys the array the kernel leaves and the array the reference
  returns agree at every index.
-/
module

public import proofs.«01_k».proof.Proof.Array
public import proofs.«01_k».proof.Proof.Reference
public import proofs.«01_k».proof.Proof.Precondition

@[expose] public section

set_option maxRecDepth 16384

noncomputable section

namespace Cert.AttnRead

open Cert.KernelIdeal Cert.KernelIdeal.Gen Idealize.ShloMosaic Idealize.ShloMosaic.TcCoe Idealize.SL.Sem

/-- Where the queries and the keys are finite, the reference's result is the array the kernel leaves. -/
theorem reference_eq_kernel [Cert.Pre_finite_queries_and_keys.Facts] (m : (ℓ : Loc nD τ sig) → Buf (Elt Ideal) ℓ) (c : Dev nD)
    (hpre : Cert.Pre_finite_queries_and_keys.fn (F := Ideal) (m ((c : Thread nD τ).loc main_arg0))
      (m ((c : Thread nD τ).loc main_arg1)) (m ((c : Thread nD τ).loc main_arg2)) = fun _ => 1#1) :
    Host.resultH (m ((c : Thread nD τ).loc main_arg0)) (m ((c : Thread nD τ).loc main_arg1)) (m ((c : Thread nD τ).loc main_arg2))
      = Value.G3 m c := by
  obtain ⟨hq, hk⟩ := real_of_pre _ _ _ hpre
  funext i
  obtain ⟨r, d, rfl⟩ : ∃ (r : Fin 32) (d : Fin 128), i = ix2 r d := ⟨_, _, eq_ix2 i⟩
  exact (Host.resultH_eq _ _ _ (scoreRow_finite hq hk) r d).trans (result_eq m c (scoreRow_finite hq hk) r d).symm

end Cert.AttnRead

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite_queries_and_keys
public import proofs.«01_k».proof.Proof.Equal
public import Idealize.ShloMosaic.Adequacy
public import Idealize.ShloMosaic.Init

@[expose] public section

noncomputable section

namespace Cert.Proof

open Idealize.ShloMosaic Idealize.SL.Sem

/-- The kernel on the machine's words runs, leaves its arguments unchanged and every semaphore counter at zero. -/
theorem frame_kernel : Cert.quiescent_Kernel := fun m ρ _ => Cert.Kernel.Gen.frame m ρ

/-- The kernel over the extended reals runs, leaves its arguments unchanged and every semaphore counter at zero. -/
theorem frame_ideal : Cert.quiescent_KernelIdeal := fun m ρ _ => Cert.KernelIdeal.Gen.frame m ρ

/-- The same from arguments whose queries and keys are finite. -/
theorem frame_ideal_pre : Cert.quiescent_KernelIdeal_pre_finite_queries_and_keys :=
  fun m ρ _ => Cert.KernelIdeal.Gen.frame m ρ

/-- The reference runs from any memory, leaves its arguments unchanged, and uses no semaphore. -/
theorem frame_reference : Cert.quiescent_ReferenceIdeal := fun m ρ _ =>
  θ_run_mono (Cert.ReferenceIdeal.Value.run (F := Ideal) m ρ) fun r h =>
    ⟨fun c => (h c).2, sem_eq_zero_of_no_sems (by decide) r.2⟩

/-- The same from arguments whose queries and keys are finite. -/
theorem frame_reference_pre : Cert.quiescent_ReferenceIdeal_pre_finite_queries_and_keys :=
  fun m ρ _ => frame_reference m ρ trivial

/-- The kernel's scale is named for the reciprocal of the square root of 128. -/
theorem preserves : Cert.preserves_Kernel_KernelIdeal :=
  IdealRules.named_const.statement Cert.KernelIdeal.κ "inv_sqrt_d" .f32 0x3DB504F3#32 _ rfl

/-- THE EQUATION: from arguments that agree, with finite queries and keys, both programs end with equal results. -/
theorem algebraic : Cert.algebraic_KernelIdeal_ReferenceIdeal_pre_finite_queries_and_keys := by
  intro m ρ m' ρ' hpre hagree
  refine ⟨_, Cert.KernelIdeal.Value.run (F := Ideal) m ρ, ?_⟩
  refine θ_run_mono (Cert.ReferenceIdeal.Value.run (F := Ideal) m' ρ') fun _ h c => ⟨(h c).1.trans ?_, (h c).2⟩
  obtain ⟨h0, h1, h2⟩ := hagree c
  rw [h0, h1, h2]
  exact Cert.AttnRead.reference_eq_kernel m c (hpre c)

/-- Every claim of the certificate. -/
theorem claim : Cert.Claim :=
  ⟨Cert.Kernel.Gen.facts, Cert.KernelIdeal.Gen.facts, Cert.ReferenceIdeal.Gen.facts,
    Cert.Pre_finite_queries_and_keys.Gen.facts, frame_kernel, frame_ideal, frame_ideal_pre, frame_reference,
    frame_reference_pre, preserves, algebraic⟩

end Cert.Proof

end
